-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v9) = v1 c
          ∧ r.2.mem ((c.tc : Thread Cert.ReferenceIdeal.nD Cert.ReferenceIdeal.τ).loc Cert.ReferenceIdeal.main_v14) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x384x248x216 : Shape := ⟨4, ![2, 384, 248, 216]⟩
abbrev S2x384 : Shape := ⟨2, ![2, 384]⟩
abbrev S2 : Shape := ⟨1, ![2]⟩
abbrev S14x384 : Shape := ⟨2, ![14, 384]⟩
abbrev S14 : Shape := ⟨1, ![14]⟩
abbrev S4x384 : Shape := ⟨2, ![4, 384]⟩
abbrev S4 : Shape := ⟨1, ![4]⟩
abbrev S20x384 : Shape := ⟨2, ![20, 384]⟩
abbrev S384x20 : Shape := ⟨2, ![384, 20]⟩
abbrev S20 : Shape := ⟨1, ![20]⟩
abbrev S1x20 : Shape := ⟨2, ![1, 20]⟩
abbrev S2x248x216x384 : Shape := ⟨4, ![2, 248, 216, 384]⟩
abbrev S2x248x2x216 : Shape := ⟨4, ![2, 248, 2, 216]⟩
abbrev S2x248x14x216 : Shape := ⟨4, ![2, 248, 14, 216]⟩
abbrev S2x248x4x216 : Shape := ⟨4, ![2, 248, 4, 216]⟩
abbrev S2x2x248x216 : Shape := ⟨4, ![2, 2, 248, 216]⟩
abbrev S2x14x248x216 : Shape := ⟨4, ![2, 14, 248, 216]⟩
abbrev S2x4x248x216 : Shape := ⟨4, ![2, 4, 248, 216]⟩
abbrev S1x8x216x384 : Shape := ⟨4, ![1, 8, 216, 384]⟩
abbrev S1x8x2x216 : Shape := ⟨4, ![1, 8, 2, 216]⟩
abbrev S1x8x14x216 : Shape := ⟨4, ![1, 8, 14, 216]⟩
abbrev S1x8x4x216 : Shape := ⟨4, ![1, 8, 4, 216]⟩
abbrev S1x1x216x384 : Shape := ⟨4, ![1, 1, 216, 384]⟩
abbrev S216x384 : Shape := ⟨2, ![216, 384]⟩
abbrev S216x20 : Shape := ⟨2, ![216, 20]⟩
abbrev S20x216 : Shape := ⟨2, ![20, 216]⟩
abbrev S2x216 : Shape := ⟨2, ![2, 216]⟩
abbrev S1x1x2x216 : Shape := ⟨4, ![1, 1, 2, 216]⟩
abbrev S14x216 : Shape := ⟨2, ![14, 216]⟩
abbrev S1x1x14x216 : Shape := ⟨4, ![1, 1, 14, 216]⟩
abbrev S4x216 : Shape := ⟨2, ![4, 216]⟩
abbrev S1x1x4x216 : Shape := ⟨4, ![1, 1, 4, 216]⟩

abbrev nBuf : Space → Nat
  | .hbm => 18
  | .vmem => 10
  | .smem => 0
  | _ => 0

abbrev bufTy : (tb : Table) → Fin (tcTables nBuf tb) → BufTy
  | .hbm, ⟨0, _⟩ => ⟨S2x384x248x216, .f32⟩
  | .hbm, ⟨1, _⟩ => ⟨S2x384, .f32⟩
  | .hbm, ⟨2, _⟩ => ⟨S2, .f32⟩
  | .hbm, ⟨3, _⟩ => ⟨S14x384, .f32⟩
  | .hbm, ⟨4, _⟩ => ⟨S14, .f32⟩
  | .hbm, ⟨5, _⟩ => ⟨S4x384, .f32⟩
  | .hbm, ⟨6, _⟩ => ⟨S4, .f32⟩
  | .hbm, ⟨7, _⟩ => ⟨S20x384, .f32⟩
  | .hbm, ⟨8, _⟩ => ⟨S384x20, .f32⟩
  | .hbm, ⟨9, _⟩ => ⟨S20, .f32⟩
  | .hbm, ⟨10, _⟩ => ⟨S1x20, .f32⟩
  | .hbm, ⟨11, _⟩ => ⟨S2x248x216x384, .f32⟩
  | .hbm, ⟨12, _⟩ => ⟨S2x248x2x216, .f32⟩
  | .hbm, ⟨13, _⟩ => ⟨S2x248x14x216, .f32⟩
  | .hbm, ⟨14, _⟩ => ⟨S2x248x4x216, .f32⟩
  | .hbm, ⟨15, _⟩ => ⟨S2x2x248x216, .f32⟩
  | .hbm, ⟨16, _⟩ => ⟨S2x14x248x216, .f32⟩
  | .hbm, ⟨17, _⟩ => ⟨S2x4x248x216, .f32⟩
  | .local _ .vmem, ⟨0, _⟩ => ⟨S1x8x216x384, .f32⟩
  | .local _ .vmem, ⟨1, _⟩ => ⟨S1x8x216x384, .f32⟩
  | .local _ .vmem, ⟨2, _⟩ => ⟨S384x20, .f32⟩
  | .local _ .vmem, ⟨3, _⟩ => ⟨S1x20, .f32⟩
  | .local _ .vmem, ⟨4, _⟩ => ⟨S1x8x2x216, .f32⟩
  | .local _ .vmem, ⟨5, _⟩ => ⟨S1x8x2x216, .f32⟩
  | .local _ .vmem, ⟨6, _⟩ => ⟨S1x8x14x216, .f32⟩
  | .local _ .vmem, ⟨7, _⟩ => ⟨S1x8x14x216, .f32⟩
  | .local _ .vmem, ⟨8, _⟩ => ⟨S1x8x4x216, .f32⟩
  | .local _ .vmem, ⟨9, _⟩ => ⟨S1x8x4x216, .f32⟩
  | _, _ => ⟨S2x384x248x216, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5_0 : Ref sig .tc := ⟨.hbm, 12, rfl⟩
abbrev main_call0_v5_1 : Ref sig .tc := ⟨.hbm, 13, rfl⟩
abbrev main_call0_v5_2 : Ref sig .tc := ⟨.hbm, 14, rfl⟩
abbrev main_v0_0 : Ref sig .tc := ⟨.hbm, 15, rfl⟩
abbrev main_v0_1 : Ref sig .tc := ⟨.hbm, 16, rfl⟩
abbrev main_v0_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 31], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8x216x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S384x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x8x2x216 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x8x14x216 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x8x4x216 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x384x248x216 : Shape := ⟨4, ![2, 384, 248, 216]⟩
abbrev S2x384 : Shape := ⟨2, ![2, 384]⟩
abbrev S2 : Shape := ⟨1, ![2]⟩
abbrev S14x384 : Shape := ⟨2, ![14, 384]⟩
abbrev S14 : Shape := ⟨1, ![14]⟩
abbrev S4x384 : Shape := ⟨2, ![4, 384]⟩
abbrev S4 : Shape := ⟨1, ![4]⟩
abbrev S2x2x248x216 : Shape := ⟨4, ![2, 2, 248, 216]⟩
abbrev S1x2x1x1 : Shape := ⟨4, ![1, 2, 1, 1]⟩
abbrev S14x2x248x216 : Shape := ⟨4, ![14, 2, 248, 216]⟩
abbrev S2x14x248x216 : Shape := ⟨4, ![2, 14, 248, 216]⟩
abbrev S1x14x1x1 : Shape := ⟨4, ![1, 14, 1, 1]⟩
abbrev S4x2x248x216 : Shape := ⟨4, ![4, 2, 248, 216]⟩
abbrev S2x4x248x216 : Shape := ⟨4, ![2, 4, 248, 216]⟩
abbrev S1x4x1x1 : Shape := ⟨4, ![1, 4, 1, 1]⟩

abbrev nBuf : Space → Nat
  | .hbm => 22
  | .vmem => 0
  | .smem => 0
  | _ => 0

abbrev bufTy : (tb : Table) → Fin (tcTables nBuf tb) → BufTy
  | .hbm, ⟨0, _⟩ => ⟨S2x384x248x216, .f32⟩
  | .hbm, ⟨1, _⟩ => ⟨S2x384, .f32⟩
  | .hbm, ⟨2, _⟩ => ⟨S2, .f32⟩
  | .hbm, ⟨3, _⟩ => ⟨S14x384, .f32⟩
  | .hbm, ⟨4, _⟩ => ⟨S14, .f32⟩
  | .hbm, ⟨5, _⟩ => ⟨S4x384, .f32⟩
  | .hbm, ⟨6, _⟩ => ⟨S4, .f32⟩
  | .hbm, ⟨7, _⟩ => ⟨S2x2x248x216, .f32⟩
  | .hbm, ⟨8, _⟩ => ⟨S2x2x248x216, .f32⟩
  | .hbm, ⟨9, _⟩ => ⟨S1x2x1x1, .f32⟩
  | .hbm, ⟨10, _⟩ => ⟨S2x2x248x216, .f32⟩
  | .hbm, ⟨11, _⟩ => ⟨S2x2x248x216, .f32⟩
  | .hbm, ⟨12, _⟩ => ⟨S14x2x248x216, .f32⟩
  | .hbm, ⟨13, _⟩ => ⟨S2x14x248x216, .f32⟩
  | .hbm, ⟨14, _⟩ => ⟨S1x14x1x1, .f32⟩
  | .hbm, ⟨15, _⟩ => ⟨S2x14x248x216, .f32⟩
  | .hbm, ⟨16, _⟩ => ⟨S2x14x248x216, .f32⟩
  | .hbm, ⟨17, _⟩ => ⟨S4x2x248x216, .f32⟩
  | .hbm, ⟨18, _⟩ => ⟨S2x4x248x216, .f32⟩
  | .hbm, ⟨19, _⟩ => ⟨S1x4x1x1, .f32⟩
  | .hbm, ⟨20, _⟩ => ⟨S2x4x248x216, .f32⟩
  | .hbm, ⟨21, _⟩ => ⟨S2x4x248x216, .f32⟩
  | _, _ => ⟨S2x384x248x216, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.Head.Rows.lean ====
/- A block of eight rows, stored row by row. Every array the kernel stages holds, at one grid point, a block
   `[1, 8, A, B]`, and the body writes such a block in eight stores, one per row `h`, the highest row last. This module says,
   for any `A` and `B`, that eight such stores fill the block and what the filled block holds. -/
module

public import Idealize.ShloMosaic.Lib.Pipeline.FrameBody
public import Idealize.ShloMosaic.Lib.Pipeline.Value
public import Idealize.ShloMosaic.Lib.Pointwise

@[expose] public section

namespace Cert.Head

open Idealize.ShloMosaic

/-- A block of eight rows of `A × B` values. -/
abbrev Block (A B : ℕ) : Shape := ⟨4, ![1, 8, A, B]⟩

/-- One row of such a block, its two leading axes kept. -/
abbrev Row (A B : ℕ) : Shape := ⟨4, ![1, 1, A, B]⟩

/-- Row `h` lies inside the block. -/
theorem row_inside (A B : ℕ) (h : Fin 8) :
    ∀ a, (![0, h.val, 0, 0] : Fin 4 → ℕ) a + (Row A B).size a ≤ (Block A B).size a := by
  intro a
  match a with
  | ⟨0, _⟩ => exact le_refl 1
  | ⟨1, _⟩ => exact Nat.succ_le_of_lt h.isLt
  | ⟨2, _⟩ => exact (Nat.zero_add A).le
  | ⟨3, _⟩ => exact (Nat.zero_add B).le

/-- The rectangle of row `h`. -/
abbrev rowAt (A B : ℕ) (h : Fin 8) : Rect (Block A B) := Rect.unit ![0, h.val, 0, 0] (Row A B).size (row_inside A B h)

/-- Position `(0, 0, a, b)` of row `h` is position `(0, h, a, b)` of the block. -/
theorem rowAt_emb (A B : ℕ) (h : Fin 8) (i j : Fin 1) (a : Fin A) (b : Fin B) :
    (rowAt A B h).emb (ix4 i j a b) = ix4 (0 : Fin 1) h a b := by
  have hi : i = 0 := Subsingleton.elim _ _
  have hj : j = 0 := Subsingleton.elim _ _
  subst hi hj
  funext k
  match k with
  | ⟨0, _⟩ => exact Fin.ext rfl
  | ⟨1, _⟩ => exact Fin.ext (show h.val + 1 * 0 = h.val by omega)
  | ⟨2, _⟩ => exact Fin.ext (show 0 + 1 * a.val = a.val by omega)
  | ⟨3, _⟩ => exact Fin.ext (show 0 + 1 * b.val = b.val by omega)

variable {Val : EltTy → Type} {e : EltTy} {A B : ℕ}

/-- The eight stores of a block whose row `h` receives `p h`, the last store first. -/
def stores (p : Fin 8 → (Row A B).Idx → Val e) : List (View.Piece Val (Block A B) e) :=
  ([7, 6, 5, 4, 3, 2, 1, 0] : List (Fin 8)).map fun h => ⟨rowAt A B h, p h⟩

/-- Every row has its store. -/
theorem mem_stores (p : Fin 8 → (Row A B).Idx → Val e) (h : Fin 8) :
    (⟨rowAt A B h, p h⟩ : View.Piece Val (Block A B) e) ∈ stores p :=
  List.mem_map.2 ⟨h, by revert h; decide, rfl⟩

/-- The eight stores reach every position of the block: position `y` lies in row `y 1`. -/
theorem stores_cover (p : Fin 8 → (Row A B).Idx → Val e) (y : (Block A B).Idx) : ∃ s ∈ stores p, y ∈ s.1.set := by
  obtain ⟨z, h, a, b, rfl⟩ : ∃ (z : Fin 1) (h : Fin 8) (a : Fin A) (b : Fin B), y = ix4 z h a b :=
    ⟨y 0, y 1, y 2, y 3, eq_ix4 y⟩
  refine ⟨_, mem_stores p h, ?_⟩
  have hz : z = 0 := Subsingleton.elim _ _
  rw [hz, ← rowAt_emb A B h 0 0 a b, ← Rect.map_emb_univ]
  exact Finset.mem_map_of_mem _ (Finset.mem_univ _)

/-- After the eight stores, position `(0, h, a, b)` of the block holds what the store of row `h` put at `(a, b)`. -/
theorem canon_stores [∀ e, Nonempty (Val e)] (p : Fin 8 → (Row A B).Idx → Val e) (z : Fin 1) (h : Fin 8) (a : Fin A) (b : Fin B) :
    View.canon (stores p) (ix4 z h a b) = p h (ix4 (0 : Fin 1) (0 : Fin 1) a b) := by
  refine View.canon_apply_of_pieces (fun y : (Block A B).Idx => p (y 1) (ix4 (0 : Fin 1) (0 : Fin 1) (y 2) (y 3)))
    (stores p) ?_ (ix4 z h a b) (stores_cover p _)
  intro s hs x
  obtain ⟨k, -, rfl⟩ := List.mem_map.1 hs
  obtain ⟨i, j, c, d, rfl⟩ : ∃ (i j : Fin 1) (c : Fin A) (d : Fin B), x = ix4 i j c d := ⟨x 0, x 1, x 2, x 3, eq_ix4 x⟩
  have hi : i = 0 := Subsingleton.elim _ _
  have hj : j = 0 := Subsingleton.elim _ _
  subst hi hj
  show p k _ = _
  rw [rowAt_emb]
  rfl

end Cert.Head
-- ==== Proof.Ideal.Body.lean ====
/- What the kernel's body computes at one grid point. The point's blocks are `x` (eight rows of 216 positions by 384
   channels), `w` (384 channels by 20 outputs) and `b` (20 biases). For each row the body forms the 20 outputs by 216
   positions `logits`, and stores outputs 0–1, 2–15 and 16–19 as that row of the three result blocks. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Head.Rows
public import Idealize.ShloMosaic.Lib.Pipeline.FrameBody
public import Idealize.ShloMosaic.Lib.Tactic

@[expose] public section

set_option maxRecDepth 16384

noncomputable section

namespace Cert.KernelIdeal.Head

open Cert.Head Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The type of the resources that the assertions below speak of. -/
local notation "𝕄" => MT nD τ sig Unit (Elt F) ℕ (UR sig nD τ) ℕ

/-- The whole weight block. -/
abbrev allW : Rect S384x20 := Rect.unit (s := S384x20) ![0, 0] S384x20.size inb_S384x20_S384x20_0_0

/-- The whole bias block. -/
abbrev allB : Rect S1x20 := Rect.unit (s := S1x20) ![0, 0] S1x20.size inb_S1x20_S1x20_0_0

section Values

/-- The 20 outputs at the 216 positions of one row: positions by channels times channels by outputs, the bias added to
    every position, and the result turned so that outputs come first. -/
def rowLogits (r : Vec F S1x1x216x384 .f32) (w : Vec F S384x20 .f32) (b : Vec F S1x20 .f32) : FVec F S20x216 .f32 :=
  transpose S20x216 [1, 0]
    (addf (matmul dot_S216x384_S384x20_S216x20_1_0_0_1_n_n none
        (shapeCast S216x384 r shapeCasts_S1x1x216x384_S216x384)
        (shapeCast S384x20 w shapeCasts_S384x20_S384x20)
        (constant S216x20 .f32 0x00000000#32))
      (broadcastTo S216x20 (shapeCast S1x20 b shapeCasts_S1x20_S1x20) broadcasts_S1x20_S216x20))
    transposes_S216x20_p1_0_S20x216

variable (x : Vec F S1x8x216x384 .f32) (w : Vec F S384x20 .f32) (b : Vec F S1x20 .f32)

/-- The outputs of row `h` of the block. -/
def logits (h : Fin 8) : FVec F S20x216 .f32 := rowLogits (View.ld x (rowAt 216 384 h)) (View.ld w allW) (View.ld b allB)

/-- Row `h` of the class block: outputs 0 and 1. -/
def clsRow (h : Fin 8) : FVec F S1x1x2x216 .f32 :=
  shapeCast S1x1x2x216 (extractStridedSlice S2x216 ![0, 0] (logits x w b h) slices_S20x216_o0_0_S2x216)
    shapeCasts_S2x216_S1x1x2x216

/-- Row `h` of the box block: outputs 2 to 15. -/
def regRow (h : Fin 8) : FVec F S1x1x14x216 .f32 :=
  shapeCast S1x1x14x216 (extractStridedSlice S14x216 ![2, 0] (logits x w b h) slices_S20x216_o2_0_S14x216)
    shapeCasts_S14x216_S1x1x14x216

/-- Row `h` of the direction block: outputs 16 to 19. -/
def dirRow (h : Fin 8) : FVec F S1x1x4x216 .f32 :=
  shapeCast S1x1x4x216 (extractStridedSlice S4x216 ![16, 0] (logits x w b h) slices_S20x216_o16_0_S4x216)
    shapeCasts_S4x216_S1x1x4x216

/-- The class block after the body. -/
def clsBlock : Vec F S1x8x2x216 .f32 := View.canon (stores (Val := Elt F) (e := .f32) (clsRow x w b))
/-- The box block after the body. -/
def regBlock : Vec F S1x8x14x216 .f32 := View.canon (stores (Val := Elt F) (e := .f32) (regRow x w b))
/-- The direction block after the body. -/
def dirBlock : Vec F S1x8x4x216 .f32 := View.canon (stores (Val := Elt F) (e := .f32) (dirRow x w b))

end Values

set_option maxHeartbeats 1000000 in
/-- The body, run on whole staging buffers holding `x`, `w` and `b`, ends with those three as they were and the result
    buffers holding `clsBlock`, `regBlock` and `dirBlock`, whatever these held before. -/
theorem body_runs (c : Dev nD) (E : Set ℕ) (i : grid0.Coords)
    (mx : Memref sig .tc .vmem S1x8x216x384 .f32) (hx : mx.IsWhole) (mw : Memref sig .tc .vmem S384x20 .f32) (hw : mw.IsWhole)
    (mb : Memref sig .tc .vmem S1x20 .f32) (hb : mb.IsWhole) (mc : Memref sig .tc .vmem S1x8x2x216 .f32) (hc : mc.IsWhole)
    (mr : Memref sig .tc .vmem S1x8x14x216 .f32) (hr : mr.IsWhole) (md : Memref sig .tc .vmem S1x8x4x216 .f32) (hd : md.IsWhole)
    (x : Vec F S1x8x216x384 .f32) (w : Vec F S384x20 .f32) (b : Vec F S1x20 .f32) (K : PUnit → sProp 𝕄) :
    iprop(owns (c : Thread nD τ) mx fullShare x ∗ owns (c : Thread nD τ) mw fullShare w ∗ owns (c : Thread nD τ) mb fullShare b
        ∗ (∃ d, owns (c : Thread nD τ) mc fullShare d) ∗ (∃ d, owns (c : Thread nD τ) mr fullShare d)
        ∗ (∃ d, owns (c : Thread nD τ) md fullShare d)
        ∗ (iprop(owns (c : Thread nD τ) mx fullShare x ∗ owns (c : Thread nD τ) mw fullShare w ∗ owns (c : Thread nD τ) mb fullShare b
            ∗ owns (c : Thread nD τ) mc fullShare (clsBlock x w b) ∗ owns (c : Thread nD τ) mr fullShare (regBlock x w b)
            ∗ owns (c : Thread nD τ) md fullShare (dirBlock x w b)) -∗ K ⟨⟩))
      ⊢ wp frame (wpE (defs₀ (F := F)) Variants.none c none) E (cc0__head_kernel i mx hx mw hw mb hb mc hc mr hr md hd) K := by
  simp only [cc0__head_kernel_eq_skeleton]
  unfold cc0__head_kernel_skel
  simp only [k0_part1_eq_skeleton, k0_part2_eq_skeleton, k0_part3_eq_skeleton, k0_part4_eq_skeleton, k0_part5_eq_skeleton]
  unfold owns
  iintro ⟨⟨%fx, %ex, Hx⟩, ⟨%fw, %ew, Hw⟩, ⟨%fb, %eb, Hb⟩, ⟨%dc, %fc, -, Hc⟩, ⟨%dr, %fr, -, Hr⟩, ⟨%dd, %fd, -, Hd⟩, Hk⟩
  subst ex ew eb
  sl_exec
  sl_step
  iapply Hk
  isplitl [Hx]
  · iexists fx; isplitr; · ipureintro; rfl
    iexact Hx
  isplitl [Hw]
  · iexists fw; isplitr; · ipureintro; rfl
    iexact Hw
  isplitl [Hb]
  · iexists fb; isplitr; · ipureintro; rfl
    iexact Hb
  isplitl [Hc]
  · iexists _; isplitr
    swap; · iexact Hc
    ipureintro
    exact View.read_writes_eq_canon _ _ (stores (Val := Elt F) (e := .f32) (clsRow _ _ _)) (stores_cover _)
  isplitl [Hr]
  · iexists _; isplitr
    swap; · iexact Hr
    ipureintro
    exact View.read_writes_eq_canon _ _ (stores (Val := Elt F) (e := .f32) (regRow _ _ _)) (stores_cover _)
  iexists _; isplitr
  swap; · iexact Hd
  ipureintro
  exact View.read_writes_eq_canon _ _ (stores (Val := Elt F) (e := .f32) (dirRow _ _ _)) (stores_cover _)

end Cert.KernelIdeal.Head

end
-- ==== Proof.Ideal.Run.lean ====
/- The kernel's launch, and its run. The three input windows are found at each grid point as the host operations before
   the launch left their arrays, the body leaves the three result blocks of Body.lean, and the run ends with each result
   buffer the transpose of its result array and every argument as it was. -/
module

public import proofs.«01_k».proof.Proof.Ideal.Body
public import Idealize.ShloMosaic.Lib.Pipeline.FrameSuffix
public import Idealize.ShloMosaic.Lib.Claim
public import Idealize.ShloMosaic.Lib.Ring
public import Idealize.ShloMosaic.Lib.WordCmp

@[expose] public section

set_option maxRecDepth 16384

noncomputable section

namespace Cert.KernelIdeal.Head

open Cert.Head Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The type of the resources that the assertions below speak of. -/
local notation "𝕄" => MT nD τ sig Unit (Elt F) ℕ (UR sig nD τ) ℕ

variable (m : (ℓ : Loc nD τ sig) → Buf (Elt F) ℓ) (ρ : Dev nD → PrngReg)

/-! ## The host operations around the launch -/

/-- The seven arguments. -/
abbrev args : List (Ref sig .tc) := [main_arg0, main_arg1, main_arg2, main_arg3, main_arg4, main_arg5, main_arg6]

/-- The buffers that the host operations before the launch write. -/
abbrev madeBefore : List (Ref sig .tc) := [main_call0_v0, main_call0_v1, main_call0_v2, main_call0_v3, main_call0_v4]

/-- The buffers that the host operations after it write. -/
abbrev madeAfter : List (Ref sig .tc) := [main_v0_0, main_v0_1, main_v0_2]

/-- Core `c`'s buffers when the launch is reached, as a valuation. -/
abbrev V0 (c : Dev nD) : Valuation τ sig (Elt F) := StableHlo.after (List.flatten [hostOps0]) (fun b => m (c, b))

/-- The same, read at a reference. -/
abbrev V (c : Dev nD) (b : Ref sig .tc) : Buf (Elt F) ((c : Thread nD τ).loc b) := V0 m c (Proc.devRef .tc b)

/-- Each operation before the launch writes one buffer of `madeBefore`. -/
theorem writes_before : (List.flatten [hostOps0] : List (HloOp τ sig (Elt F))).Forall fun op =>
    op.writes ⊆ (madeBefore.map (Proc.devRef (τ := τ) .tc)).toFinset :=
  StableHlo.forall_writes_sub_of_map rfl

/-- Each operation after the launch writes one buffer of `madeAfter`. -/
theorem writes_after : (List.flatten [hostOps1] : List (HloOp τ sig (Elt F))).Forall fun op =>
    op.writes ⊆ (madeAfter.map (Proc.devRef (τ := τ) .tc)).toFinset :=
  StableHlo.forall_writes_sub_of_map rfl

/-- The launch finds every argument as it was. -/
theorem V_args (c : Dev nD) {b : Ref sig .tc} (hb : b ∈ args) : V m c b = m ((c : Thread nD τ).loc b) :=
  StableHlo.after_of_writes_sub _ _ writes_before ((by decide : ∀ b ∈ args, b ∉ madeBefore) b hb)

/-- The operations after the launch leave every argument as it was. -/
theorem tail_args (dats : (p : Fin _) → (c : Dev nD) → Dat τ (Elt F) Unit ℕ (UR sig nD τ) ℕ (cfgs p) c) (c : Dev nD)
    {b : Ref sig .tc} (hb : b ∈ args) :
    Pipeline.afterTail₀ cfgs dats 0 (V0 m) [hostOps1] c b = m ((c : Thread nD τ).loc b) :=
  (StableHlo.after_of_writes_sub _ _ writes_after ((by decide : ∀ b ∈ args, b ∉ madeAfter) b hb)).trans
    ((Pipeline.withArrays_of_ne _ c (V0 m c) _ b ((by decide : ∀ b ∈ args, ∀ w, Pipeline.arrRef spec0 w ≠ b) b hb)).trans
      (V_args m c hb))

set_option maxHeartbeats 800000 in
/-- The program is the operations before the launch, the launch, and the operations after it. -/
theorem main_shape (𝒱₀ : Variants) : Pipeline.HMainK (Ix := Unit) (Name := ℕ) (U := UR sig nD τ) (Lvl := ℕ) cfgs 0 defs₀ 𝒱₀ m
    (main (F := F)) (V m) (fun _ => Pipeline.chain ([hostOps1].map StableHlo.seq)) :=
  Pipeline.hmain_around cfgs 0 defs₀ 𝒱₀ m main [hostOps0] [hostOps1] hostOps0_sub
    (StableHlo.forall_fresh_of_map rfl) main_chain

/-- The operations after the launch touch the launch's arrays and buffers outside it only. -/
theorem tail_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  exact List.forall_mem_singleton.mpr fun op hop => Pipeline.sub_ucRefs op (List.forall_iff_forall_mem.mp hostOps1_sub op hop)

/-- They make no buffer of their own. -/
theorem tail_fresh : ∀ ops ∈ ([hostOps1] : List (List (HloOp τ sig (Elt F)))), ∀ op ∈ ops, op.fresh = ∅ :=
  List.forall_mem_singleton.mpr (List.forall_iff_forall_mem.mp (StableHlo.forall_fresh_of_map rfl))

/-- They write none of the launch's arrays. -/
theorem tail_keeps : ∀ ops ∈ ([hostOps1] : List (List (HloOp τ sig (Elt F)))), ∀ op ∈ ops,
    ∀ w, Proc.devRef .tc (Pipeline.arrRef spec0 w) ∉ op.writes := by
  refine List.forall_mem_singleton.mpr fun op hop w hw => ?_
  obtain ⟨b, hb, e⟩ := List.mem_map.mp (List.mem_toFinset.mp (List.forall_iff_forall_mem.mp writes_after op hop hw))
  exact (by decide : ∀ w, Pipeline.arrRef spec0 w ∉ madeAfter) w (Proc.devRef_injective _ e ▸ hb)

/-! ## The blocks at a grid point -/

/-- Window `w`'s block at point `t`, read off its array as the launch finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The launch's data on core `c`: the arrays as the launch finds them, and after the body at point `t` each input
    buffer at its block and each result buffer at the block that Body.lean computes from these. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => clsBlock (iblk m c 0 t) (iblk m c 1 t) (iblk m c 2 t)
    | ⟨4, _⟩ => regBlock (iblk m c 0 t) (iblk m c 1 t) (iblk m c 2 t)
    | ⟨5, _⟩ => dirBlock (iblk m c 0 t) (iblk m c 1 t) (iblk m c 2 t)
  Φ _ := Pipeline.ΦA spec0 c
  q _ := fullShare
  owed _ := 0

/-- The data's arrays are the launch's. -/
theorem A_eq (c : Dev nD) (w : Fin cfg0.W) : (dats m 0 c).A w = V m c (Pipeline.arrRef spec0 w) := by
  dsimp only [dats]

/-- The body leaves each input's buffer at its block, -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
/-- and each result's buffer at its result block. -/
theorem after_cls (c : Dev nD) (t : Fin cfg0.N) :
    (dats m 0 c).after 3 t = clsBlock (iblk m c 0 t) (iblk m c 1 t) (iblk m c 2 t) := by dsimp only [dats]
theorem after_reg (c : Dev nD) (t : Fin cfg0.N) :
    (dats m 0 c).after 4 t = regBlock (iblk m c 0 t) (iblk m c 1 t) (iblk m c 2 t) := by dsimp only [dats]
theorem after_dir (c : Dev nD) (t : Fin cfg0.N) :
    (dats m 0 c).after 5 t = dirBlock (iblk m c 0 t) (iblk m c 1 t) (iblk m c 2 t) := by dsimp only [dats]

/-- The body finds each input's buffer at its block: fetched at this point, or left there by the point before. -/
theorem before_in0 (c : Dev nD) (t : Fin cfg0.N) (d) : (dats m 0 c).before 0 t d = iblk m c 0 t :=
  (dats m 0 c).before_in_eq_fetched 0 rfl (fun _ => rfl) (fun _ _ _ => rfl) (fun t => after_in0 m c t) t d
theorem before_in1 (c : Dev nD) (t : Fin cfg0.N) (d) : (dats m 0 c).before 1 t d = iblk m c 1 t :=
  (dats m 0 c).before_in_eq_fetched 1 rfl (fun _ => rfl) (fun _ _ _ => rfl) (fun t => after_in1 m c t) t d
theorem before_in2 (c : Dev nD) (t : Fin cfg0.N) (d) : (dats m 0 c).before 2 t d = iblk m c 2 t :=
  (dats m 0 c).before_in_eq_fetched 2 rfl (fun _ => rfl) (fun _ _ _ => rfl) (fun t => after_in2 m c t) t d

/-! ## The body at a grid point -/

/-- What the body starts from at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it ends with. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body takes the one to the other: `body_runs` at the point's own blocks, the rest carried past it. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2]
  rw [show (dats m 0 c).Φ t.succ = (dats m 0 c).Φ t.castSucc from rfl,
    show (dats m 0 c).owesAt () t.succ = (dats m 0 c).owesAt () t.castSucc from rfl,
    after_in0, after_in1, after_in2, after_cls, after_reg, after_dir]
  iintro ⟨HΦ, Ho, ⟨%_, Hx⟩, ⟨%_, Hw⟩, ⟨%_, Hb⟩, ⟨%_, Hc⟩, ⟨%_, Hr⟩, ⟨%_, Hd⟩⟩
  iapply (body_runs c Set.univ (grid0.coords t) _ _ _ _ _ _ _ _ _ _ _ _ (iblk m c 0 t) (iblk m c 1 t) (iblk m c 2 t) _)
  isplitl [Hx]; · iexact Hx
  isplitl [Hw]; · iexact Hw
  isplitl [Hb]; · iexact Hb
  isplitl [Hc]; · iexists _; iexact Hc
  isplitl [Hr]; · iexists _; iexact Hr
  isplitl [Hd]; · iexists _; iexact Hd
  iintro ⟨Hx, Hw, Hb, Hc, Hr, Hd⟩
  isplitl [HΦ]; · iexact HΦ
  isplitl [Ho]; · iexact Ho
  isplitl [Hx]; · iexact Hx
  isplitl [Hw]; · iexact Hw
  isplitl [Hb]; · iexact Hb
  isplitl [Hc]; · iexact Hc
  isplitl [Hr]; · iexact Hr
  iexact Hd

/-- The launch's body at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- What the launch asks of the body holds at every point. -/
theorem body_obligation (c : Dev nD) : BodyObligation (dats (F := F) m 0 c) (defs₀ (F := F)) Variants.none () Set.univ := fun t => by
  rw [bigSep_W0, bigSep_W0, defs₀_row]
  exact triple_restated (body_at m c t) rfl .rfl fun _ => .rfl

/-! ## The run -/

set_option backward.isDefEq.respectTransparency.types false in
set_option maxHeartbeats 800000 in
/-- Every run ends, with the launch's arrays at what its data give, every other buffer as the operations after the launch
    leave it, and every counter at zero. -/
theorem run : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := tail_sub) (hfresh := tail_fresh) (hkeep := tail_keeps)
    (hmain := main_shape m Variants.none) (hA := A_eq m) (hΦ := fun _ _ => rfl)

/-- The class array, box array and direction array when the launch is over. -/
def clsArr (c : Dev nD) : Vec F S2x248x2x216 .f32 := (dats m 0 c).arrAt 3 cfg0.N
def regArr (c : Dev nD) : Vec F S2x248x14x216 .f32 := (dats m 0 c).arrAt 4 cfg0.N
def dirArr (c : Dev nD) : Vec F S2x248x4x216 .f32 := (dats m 0 c).arrAt 5 cfg0.N

/-- The class result is the class array with its rows and its outputs exchanged, -/
theorem tail_cls (c : Dev nD) : Pipeline.afterTail₀ cfgs (dats m) 0 (V0 m) [hostOps1] c main_v0_0
    = transpose S2x2x248x216 [0, 2, 1, 3] (clsArr m c) transposes_S2x248x2x216_S2x2x248x216_0_2_1_3 :=
  congrArg (transpose S2x2x248x216 [0, 2, 1, 3] · transposes_S2x248x2x216_S2x2x248x216_0_2_1_3)
    (Pipeline.withArrays_arr spec0 launch0.win.arr_inj c (V0 m c) (fun w => (dats m 0 c).arrAt w cfg0.N) 3)

/-- the box result likewise, -/
theorem tail_reg (c : Dev nD) : Pipeline.afterTail₀ cfgs (dats m) 0 (V0 m) [hostOps1] c main_v0_1
    = transpose S2x14x248x216 [0, 2, 1, 3] (regArr m c) transposes_S2x248x14x216_S2x14x248x216_0_2_1_3 :=
  congrArg (transpose S2x14x248x216 [0, 2, 1, 3] · transposes_S2x248x14x216_S2x14x248x216_0_2_1_3)
    (Pipeline.withArrays_arr spec0 launch0.win.arr_inj c (V0 m c) (fun w => (dats m 0 c).arrAt w cfg0.N) 4)

/-- and the direction result. -/
theorem tail_dir (c : Dev nD) : Pipeline.afterTail₀ cfgs (dats m) 0 (V0 m) [hostOps1] c main_v0_2
    = transpose S2x4x248x216 [0, 2, 1, 3] (dirArr m c) transposes_S2x248x4x216_S2x4x248x216_0_2_1_3 :=
  congrArg (transpose S2x4x248x216 [0, 2, 1, 3] · transposes_S2x248x4x216_S2x4x248x216_0_2_1_3)
    (Pipeline.withArrays_arr spec0 launch0.win.arr_inj c (V0 m c) (fun w => (dats m 0 c).arrAt w cfg0.N) 5)

/-- Every run ends with the three results at what the launch's arrays give, every argument as it was, and every counter at
    zero. -/
theorem ends : θ_run defs (onTc (τ := τ) (main (F := F))) ⟨m, fun _ => 0, ρ⟩ (fun r => (∀ c : Dev nD,
      r.2.mem ((c.tc : Thread nD τ).loc main_v0_0)
        = transpose S2x2x248x216 [0, 2, 1, 3] (clsArr m c) transposes_S2x248x2x216_S2x2x248x216_0_2_1_3
      ∧ r.2.mem ((c.tc : Thread nD τ).loc main_v0_1)
        = transpose S2x14x248x216 [0, 2, 1, 3] (regArr m c) transposes_S2x248x14x216_S2x14x248x216_0_2_1_3
      ∧ r.2.mem ((c.tc : Thread nD τ).loc main_v0_2)
        = transpose S2x4x248x216 [0, 2, 1, 3] (dirArr m c) transposes_S2x248x4x216_S2x4x248x216_0_2_1_3
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono (fun r h => ⟨fun c => ?_, h.2⟩) (run m ρ)
  have rest (b : Ref sig .tc) (hs : b ∈ madeAfter ++ args) := (h.1 c).2 b (Pipeline.mem_restRefs_of b
    ((by decide : ∀ b ∈ madeAfter ++ args, b.isScoped = false) b hs)
    ((by decide : ∀ b ∈ madeAfter ++ args, ∀ w, (spec0 w).arr.view.ref ≠ b) b hs))
  have arg (b : Ref sig .tc) (hb : b ∈ args) := (rest b (List.mem_append_right _ hb)).trans (tail_args m (dats m) c hb)
  exact ⟨(rest main_v0_0 (by decide)).trans (tail_cls m c), (rest main_v0_1 (by decide)).trans (tail_reg m c),
    (rest main_v0_2 (by decide)).trans (tail_dir m c), arg _ (by decide), arg _ (by decide), arg _ (by decide),
    arg _ (by decide), arg _ (by decide), arg _ (by decide), arg _ (by decide)⟩

end Cert.KernelIdeal.Head

end
-- ==== Proof.Bits.Frame.lean ====
/- The kernel as compiled and the kernel read over the extended reals are printed twice, with the same text. What Run.lean
   proves of the second at any choice of the float operations is here carried to the first. -/
module

public import proofs.«01_k».proof.Proof.Ideal.Run
public import proofs.«01_k».proof.Proof.Gen.Kernel.Launch

@[expose] public section

namespace Cert.Kernel.Head

open Idealize.ShloMosaic Idealize.ShloMosaic.TcCoe Idealize.ShloMosaic.Tactic

variable [Facts]

/-- That every run of the program from memory `m` leaves the arguments as they were and the counters at zero. -/
def Frame (m : (ℓ : Loc nD τ sig) → Buf (Elt Bits) ℓ) (ρ : Dev nD → PrngReg) : Prop :=
  θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

/-- The same statement of the other printing, at the same float operations. -/
def FrameIdeal [Cert.KernelIdeal.Facts] (m : (ℓ : Loc nD τ sig) → Buf (Elt Bits) ℓ) (ρ : Dev nD → PrngReg) : Prop :=
  θ_run (Cert.KernelIdeal.defs (F := Bits)) (onTc (τ := Cert.KernelIdeal.τ) (Cert.KernelIdeal.main (F := Bits)))
    ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0)

/-- The two statements are one: the programs are the same text. -/
theorem frame_same [Cert.KernelIdeal.Facts] (m : (ℓ : Loc nD τ sig) → Buf (Elt Bits) ℓ) (ρ : Dev nD → PrngReg) :
    FrameIdeal m ρ = Frame m ρ := by sl_kernel_rfl

/-- The frame of the kernel as compiled. -/
theorem frame (m : (ℓ : Loc nD τ sig) → Buf (Elt Bits) ℓ) (ρ : Dev nD → PrngReg) : Frame m ρ :=
  haveI := Cert.KernelIdeal.Gen.facts
  (frame_same m ρ).mp ((θ_run _ _ _).mono (fun _ h => ⟨fun c => (h.1 c).2.2.2, h.2⟩)
    (Cert.KernelIdeal.Head.ends (F := Bits) m ρ))

end Cert.Kernel.Head
-- ==== Proof.Ideal.Entry.lean ====
/- The three arrays that the launch finds, at an index: the image with its channels moved last, the three weight matrices
   put one under another and turned, and the three bias vectors put one after another. -/
module

public import proofs.«01_k».proof.Proof.Ideal.Run
public import Idealize.ShloMosaic.Lib.Pointwise
public import Idealize.ShloMosaic.Lib.StableHlo.ReadAt

@[expose] public section

noncomputable section

namespace Cert.KernelIdeal.Head

open Cert.Head Cert.KernelIdeal.Gen
open Idealize.ShloMosaic Idealize.ShloMosaic.TcCoe

variable (m : (ℓ : Loc nD τ sig) → Buf (Elt Ideal) ℓ) (c : Dev nD)

/-- The arguments on core `c`: the image, -/
abbrev img : Vec Ideal S2x384x248x216 .f32 := m ((c.tc : Thread nD τ).loc main_arg0)
/-- and the weights and biases of the class head, -/
abbrev clsW : Vec Ideal S2x384 .f32 := m ((c.tc : Thread nD τ).loc main_arg1)
abbrev clsB : Vec Ideal S2 .f32 := m ((c.tc : Thread nD τ).loc main_arg2)
/-- the box head, -/
abbrev regW : Vec Ideal S14x384 .f32 := m ((c.tc : Thread nD τ).loc main_arg3)
abbrev regB : Vec Ideal S14 .f32 := m ((c.tc : Thread nD τ).loc main_arg4)
/-- and the direction head. -/
abbrev dirW : Vec Ideal S4x384 .f32 := m ((c.tc : Thread nD τ).loc main_arg5)
abbrev dirB : Vec Ideal S4 .f32 := m ((c.tc : Thread nD τ).loc main_arg6)

/-- The image that the launch finds, the weights and the biases. -/
abbrev imgIn : Vec Ideal S2x248x216x384 .f32 := V m c main_call0_v4
abbrev wIn : Vec Ideal S384x20 .f32 := V m c main_call0_v1
abbrev bIn : Vec Ideal S1x20 .f32 := V m c main_call0_v3

/-- The image, channels last. -/
theorem imgIn_apply (n : Fin 2) (r : Fin 248) (p : Fin 216) (k : Fin 384) :
    imgIn m c (ix4 n r p k) = img m c (ix4 n k r p) := by
  unfold imgIn V V0
  after_reads_at

/-- Outputs 0 and 1 have the class head's weights and biases, -/
theorem wIn_cls (k : Fin 384) (a : Fin 2) : wIn m c (ix2 k (⟨a.val, by omega⟩ : Fin 20)) = clsW m c (ix2 a k) := by
  unfold wIn V V0
  after_reads_at
  rfl

theorem bIn_cls (a : Fin 2) : bIn m c (ix2 (0 : Fin 1) (⟨a.val, by omega⟩ : Fin 20)) = clsB m c (ix1 a) := by
  unfold bIn V V0
  after_reads_at
  rfl

/-- outputs 2 to 15 the box head's, -/
theorem wIn_reg (k : Fin 384) (a : Fin 14) : wIn m c (ix2 k (⟨2 + a.val, by omega⟩ : Fin 20)) = regW m c (ix2 a k) := by
  unfold wIn V V0
  after_reads_at
  rfl

theorem bIn_reg (a : Fin 14) : bIn m c (ix2 (0 : Fin 1) (⟨2 + a.val, by omega⟩ : Fin 20)) = regB m c (ix1 a) := by
  unfold bIn V V0
  after_reads_at
  rfl

/-- and outputs 16 to 19 the direction head's. -/
theorem wIn_dir (k : Fin 384) (a : Fin 4) : wIn m c (ix2 k (⟨16 + a.val, by omega⟩ : Fin 20)) = dirW m c (ix2 a k) := by
  unfold wIn V V0
  after_reads_at
  rw [dif_neg (by omega), dif_neg (by omega)]
  exact congrArg (fun i => dirW m c (ix2 i k)) (Fin.ext (show 16 + a.val - 2 - 14 = a.val by omega))

theorem bIn_dir (a : Fin 4) : bIn m c (ix2 (0 : Fin 1) (⟨16 + a.val, by omega⟩ : Fin 20)) = dirB m c (ix1 a) := by
  unfold bIn V V0
  after_reads_at
  rw [dif_neg (by omega), dif_neg (by omega)]
  exact congrArg (fun i => dirB m c (ix1 i)) (Fin.ext (show 16 + a.val - 2 - 14 = a.val by omega))

end Cert.KernelIdeal.Head

end
-- ==== Proof.Ideal.Block.lean ====
/- The body's result blocks at an index, over the extended reals: an entry is the sum over the 384 channels of the row's
   entry times the weight, plus the output's bias. -/
module

public import proofs.«01_k».proof.Proof.Ideal.Body
public import Idealize.ShloMosaic.Lib.Pointwise

@[expose] public section

noncomputable section

namespace Cert.KernelIdeal.Head

open Cert.Head Cert.KernelIdeal.Gen
open Idealize.ShloMosaic

variable (x : Vec Ideal S1x8x216x384 .f32) (w : Vec Ideal S384x20 .f32) (b : Vec Ideal S1x20 .f32)

/-- Output `o` at position `p` of row `h`: the channels' sum and the bias. -/
def score (h : Fin 8) (o : Fin 20) (p : Fin 216) : EReal :=
  (∑ k : Fin 384, x (ix4 (0 : Fin 1) h p k) * w (ix2 k o)) + b (ix2 (0 : Fin 1) o)

/-- Row `h`'s loaded part of the block, at a position and a channel. -/
theorem row_load (h : Fin 8) (p : Fin 216) (k : Fin 384) :
    View.ld x (rowAt 216 384 h) (ix4 (0 : Fin 1) (0 : Fin 1) p k) = x (ix4 (0 : Fin 1) h p k) :=
  congrArg x (rowAt_emb 216 384 h 0 0 p k)

/-- The whole weight block, loaded, is the weight block, -/
theorem weight_load : View.ld w allW = w :=
  View.ld_unit_zero (by funext a; fin_cases a <;> rfl) _ w

/-- and the whole bias block the bias block. -/
theorem bias_load : View.ld b allB = b :=
  View.ld_unit_zero (by funext a; fin_cases a <;> rfl) _ b

/-- The outputs of one row at an index. -/
theorem rowLogits_apply (r : Vec Ideal S1x1x216x384 .f32) (o : Fin 20) (p : Fin 216) :
    rowLogits r w b (ix2 o p)
      = (∑ k : Fin 384, r (ix4 (0 : Fin 1) (0 : Fin 1) p k) * w (ix2 k o)) + b (ix2 (0 : Fin 1) o) := by
  unfold rowLogits
  pointwise

/-- Output `o` at position `p` of row `h` is `score`. -/
theorem logits_apply (h : Fin 8) (o : Fin 20) (p : Fin 216) : logits x w b h (ix2 o p) = score x w b h o p := by
  unfold logits score
  rw [weight_load, bias_load, rowLogits_apply]
  exact congrArg (· + b (ix2 (0 : Fin 1) o))
    (Finset.sum_congr rfl fun k _ => congrArg (· * w (ix2 k o)) (row_load x h p k))

/-- The class block at an index: outputs 0 and 1, -/
theorem clsBlock_apply (z : Fin 1) (h : Fin 8) (a : Fin 2) (p : Fin 216) :
    clsBlock x w b (ix4 z h a p) = score x w b h ⟨a.val, by omega⟩ p := by
  unfold clsBlock
  rw [canon_stores, ← logits_apply]
  unfold clsRow
  generalize logits x w b h = l
  pointwise

/-- the box block: outputs 2 to 15, -/
theorem regBlock_apply (z : Fin 1) (h : Fin 8) (a : Fin 14) (p : Fin 216) :
    regBlock x w b (ix4 z h a p) = score x w b h ⟨2 + a.val, by omega⟩ p := by
  unfold regBlock
  rw [canon_stores, ← logits_apply]
  unfold regRow
  generalize logits x w b h = l
  pointwise

/-- and the direction block: outputs 16 to 19. -/
theorem dirBlock_apply (z : Fin 1) (h : Fin 8) (a : Fin 4) (p : Fin 216) :
    dirBlock x w b (ix4 z h a p) = score x w b h ⟨16 + a.val, by omega⟩ p := by
  unfold dirBlock
  rw [canon_stores, ← logits_apply]
  unfold dirRow
  generalize logits x w b h = l
  pointwise

end Cert.KernelIdeal.Head

end
-- ==== Proof.Head.Conv.lean ====
/- What one head computes: at every position of every image, each output is the sum over the 384 channels of its weight
   times the channel's value there, plus its bias. -/
module

public import Idealize.ShloMosaic.PureOps.Ideal
public import Idealize.ShloMosaic.Lib.Pointwise

@[expose] public section

noncomputable section

namespace Cert.Head

open Idealize.ShloMosaic

/-- The head with `A` outputs, of images `x`, weights `w` and biases `b`. -/
def conv (A : ℕ) (x : Vec Ideal ⟨4, ![2, 384, 248, 216]⟩ .f32) (w : Vec Ideal ⟨2, ![A, 384]⟩ .f32) (b : Vec Ideal ⟨1, ![A]⟩ .f32) :
    Vec Ideal ⟨4, ![2, A, 248, 216]⟩ .f32 :=
  fun i => (∑ k : Fin 384, w (ix2 (i 1) k) * x (ix4 (i 0) k (i 2) (i 3))) + b (ix1 (i 1))

/-- The same values as the kernel's launch lays them out: rows before outputs, and the channel's value times the weight. -/
def rows (A : ℕ) (x : Vec Ideal ⟨4, ![2, 384, 248, 216]⟩ .f32) (w : Vec Ideal ⟨2, ![A, 384]⟩ .f32) (b : Vec Ideal ⟨1, ![A]⟩ .f32) :
    Vec Ideal ⟨4, ![2, 248, A, 216]⟩ .f32 :=
  fun i => (∑ k : Fin 384, x (ix4 (i 0) k (i 1) (i 3)) * w (ix2 (i 2) k)) + b (ix1 (i 2))

/-- Rows and outputs exchanged, the launch's values are the head's: multiplication commutes. -/
theorem transpose_rows (A : ℕ) (x : Vec Ideal ⟨4, ![2, 384, 248, 216]⟩ .f32) (w : Vec Ideal ⟨2, ![A, 384]⟩ .f32)
    (b : Vec Ideal ⟨1, ![A]⟩ .f32) (h : Shape.Transposes ⟨4, ![2, 248, A, 216]⟩ [0, 2, 1, 3] ⟨4, ![2, A, 248, 216]⟩) :
    transpose ⟨4, ![2, A, 248, 216]⟩ [0, 2, 1, 3] (rows A x w b) h = conv A x w b := by
  funext i
  unfold rows conv
  pointwise
  exact congrArg (· + b (ix1 (i 1))) (Finset.sum_congr rfl fun k _ => mul_comm _ _)

end Cert.Head

end
-- ==== Proof.Ideal.Arrays.lean ====
/- The three result arrays when the launch is over. The grid point `(n, i)` stages rows `8 i` to `8 i + 7` of image `n`,
   all of the weights and all of the biases, and its result blocks are those same rows of the result arrays. -/
module

public import proofs.«01_k».proof.Proof.Ideal.Entry
public import proofs.«01_k».proof.Proof.Ideal.Block
public import proofs.«01_k».proof.Proof.Head.Conv
public import Idealize.ShloMosaic.Lib.Pipeline.ValueKit

@[expose] public section

noncomputable section

namespace Cert.KernelIdeal.Head

open Cert.Head Cert.KernelIdeal.Gen
open Idealize.ShloMosaic Idealize.ShloMosaic.TcCoe
open Idealize.ShloMosaic.Pipeline (Dat Cfg Window)

variable (m : (ℓ : Loc nD τ sig) → Buf (Elt Ideal) ℓ) (c : Dev nD)

/-- Which block each window is at, at a grid point. -/
theorem index_at (t : Fin grid0.N) :
    win0_0.index t = ![(grid0.coords t 0).val, (grid0.coords t 1).val, 0, 0] ∧ win0_1.index t = ![0, 0]
    ∧ win0_2.index t = ![0, 0] ∧ win0_3.index t = ![(grid0.coords t 0).val, (grid0.coords t 1).val, 0, 0]
    ∧ win0_4.index t = ![(grid0.coords t 0).val, (grid0.coords t 1).val, 0, 0]
    ∧ win0_5.index t = ![(grid0.coords t 0).val, (grid0.coords t 1).val, 0, 0] := by
  revert t; decide +kernel

/-- The image that a grid point works on. -/
def imageOf (t : Fin grid0.N) : Fin 2 := ⟨(grid0.coords t 0).val, (grid0.coords t 0).isLt⟩

/-- The image's row that is row `h` of the point's blocks. -/
def rowOf (t : Fin grid0.N) (h : Fin 8) : Fin 248 :=
  ⟨(grid0.coords t 1).val * 8 + h.val, by
    have h1 : (grid0.coords t 1).val < 31 := (grid0.coords t 1).isLt
    omega⟩

/-- The point's block of the image, -/
theorem img_block (t : Fin grid0.N) (h : Fin 8) (p : Fin 216) (k : Fin 384) :
    iblk m c 0 t (ix4 (0 : Fin 1) h p k) = imgIn m c (ix4 (imageOf t) (rowOf t h) p k) := by
  have e := (index_at t).1
  blk_ext [iblk, e, imageOf, rowOf]

/-- of the weights, -/
theorem w_block (t : Fin grid0.N) (k : Fin 384) (o : Fin 20) : iblk m c 1 t (ix2 k o) = wIn m c (ix2 k o) := by
  have e := (index_at t).2.1
  blk_ext [iblk, e]

/-- and of the biases. -/
theorem b_block (t : Fin grid0.N) (o : Fin 20) : iblk m c 2 t (ix2 (0 : Fin 1) o) = bIn m c (ix2 (0 : Fin 1) o) := by
  have e := (index_at t).2.2.1
  blk_ext [iblk, e]

/-- Output `o` at position `p` of the point's row `h`. -/
theorem score_at (t : Fin grid0.N) (h : Fin 8) (o : Fin 20) (p : Fin 216) :
    score (iblk m c 0 t) (iblk m c 1 t) (iblk m c 2 t) h o p
      = (∑ k : Fin 384, img m c (ix4 (imageOf t) k (rowOf t h) p) * wIn m c (ix2 k o)) + bIn m c (ix2 (0 : Fin 1) o) := by
  unfold score
  rw [b_block]
  refine congrArg (· + bIn m c (ix2 (0 : Fin 1) o)) (Finset.sum_congr rfl fun k _ => ?_)
  rw [w_block, img_block, imgIn_apply]

/-- Where the point's result blocks lie in the result arrays: the class block, -/
theorem cls_place (t : Fin grid0.N) (z : Fin 1) (h : Fin 8) (a : Fin 2) (p : Fin 216) :
    (win0_3.blk t).view.emb (ix4 z h a p) = ix4 (imageOf t) (rowOf t h) a p := by
  have e := (index_at t).2.2.2.1
  blk_ext [e, imageOf, rowOf]

/-- the box block, -/
theorem reg_place (t : Fin grid0.N) (z : Fin 1) (h : Fin 8) (a : Fin 14) (p : Fin 216) :
    (win0_4.blk t).view.emb (ix4 z h a p) = ix4 (imageOf t) (rowOf t h) a p := by
  have e := (index_at t).2.2.2.2.1
  blk_ext [e, imageOf, rowOf]

/-- and the direction block. -/
theorem dir_place (t : Fin grid0.N) (z : Fin 1) (h : Fin 8) (a : Fin 4) (p : Fin 216) :
    (win0_5.blk t).view.emb (ix4 z h a p) = ix4 (imageOf t) (rowOf t h) a p := by
  have e := (index_at t).2.2.2.2.2
  blk_ext [e, imageOf, rowOf]

/-- The class array when the launch is over, -/
theorem clsArr_eq : clsArr m c = rows 2 (img m c) (clsW m c) (clsB m c) := by
  unfold clsArr
  refine (dats m 0 c).arrAt_eq_of_covers 3 _ (by decide +kernel) fun t hf y => ?_
  blk_simp
  obtain ⟨z, h, a, p, rfl⟩ : ∃ (z : Fin 1) (h : Fin 8) (a : Fin 2) (p : Fin 216), y = ix4 z h a p :=
    ⟨y 0, y 1, y 2, y 3, eq_ix4 y⟩
  rw [after_cls, clsBlock_apply, score_at, cls_place]
  exact congrArg₂ (· + ·) (Finset.sum_congr rfl fun k _ => congrArg (_ * ·) (wIn_cls m c k a)) (bIn_cls m c a)

/-- the box array, -/
theorem regArr_eq : regArr m c = rows 14 (img m c) (regW m c) (regB m c) := by
  unfold regArr
  refine (dats m 0 c).arrAt_eq_of_covers 4 _ (by decide +kernel) fun t hf y => ?_
  blk_simp
  obtain ⟨z, h, a, p, rfl⟩ : ∃ (z : Fin 1) (h : Fin 8) (a : Fin 14) (p : Fin 216), y = ix4 z h a p :=
    ⟨y 0, y 1, y 2, y 3, eq_ix4 y⟩
  rw [after_reg, regBlock_apply, score_at, reg_place]
  exact congrArg₂ (· + ·) (Finset.sum_congr rfl fun k _ => congrArg (_ * ·) (wIn_reg m c k a)) (bIn_reg m c a)

/-- and the direction array. -/
theorem dirArr_eq : dirArr m c = rows 4 (img m c) (dirW m c) (dirB m c) := by
  unfold dirArr
  refine (dats m 0 c).arrAt_eq_of_covers 5 _ (by decide +kernel) fun t hf y => ?_
  blk_simp
  obtain ⟨z, h, a, p, rfl⟩ : ∃ (z : Fin 1) (h : Fin 8) (a : Fin 4) (p : Fin 216), y = ix4 z h a p :=
    ⟨y 0, y 1, y 2, y 3, eq_ix4 y⟩
  rw [after_dir, dirBlock_apply, score_at, dir_place]
  exact congrArg₂ (· + ·) (Finset.sum_congr rfl fun k _ => congrArg (_ * ·) (wIn_dir m c k a)) (bIn_dir m c a)

end Cert.KernelIdeal.Head

end
-- ==== Proof.Ideal.Results.lean ====
/- The kernel's three results are the three heads: each is its array with the rows and the outputs exchanged. -/
module

public import proofs.«01_k».proof.Proof.Ideal.Arrays

@[expose] public section

noncomputable section

namespace Cert.KernelIdeal.Head

open Cert.Head Cert.KernelIdeal.Gen
open Idealize.ShloMosaic Idealize.ShloMosaic.TcCoe

variable (m : (ℓ : Loc nD τ sig) → Buf (Elt Ideal) ℓ) (c : Dev nD)

/-- The class result, -/
theorem cls_result : transpose S2x2x248x216 [0, 2, 1, 3] (clsArr m c) transposes_S2x248x2x216_S2x2x248x216_0_2_1_3
    = conv 2 (img m c) (clsW m c) (clsB m c) := by
  rw [clsArr_eq]
  exact transpose_rows _ _ _ _ _

/-- the box result, -/
theorem reg_result : transpose S2x14x248x216 [0, 2, 1, 3] (regArr m c) transposes_S2x248x14x216_S2x14x248x216_0_2_1_3
    = conv 14 (img m c) (regW m c) (regB m c) := by
  rw [regArr_eq]
  exact transpose_rows _ _ _ _ _

/-- and the direction result. -/
theorem dir_result : transpose S2x4x248x216 [0, 2, 1, 3] (dirArr m c) transposes_S2x248x4x216_S2x4x248x216_0_2_1_3
    = conv 4 (img m c) (dirW m c) (dirB m c) := by
  rw [dirArr_eq]
  exact transpose_rows _ _ _ _ _

end Cert.KernelIdeal.Head

end
-- ==== Proof.Reference.Results.lean ====
/- The reference's three results are the three heads. -/
module

public import proofs.«01_k».proof.Proof.Gen.ReferenceIdeal.Run
public import proofs.«01_k».proof.Proof.Head.Conv
public import Idealize.ShloMosaic.Lib.Claim

@[expose] public section

noncomputable section

namespace Cert.ReferenceIdeal.Head

open Cert.Head Cert.ReferenceIdeal Cert.ReferenceIdeal.Gen
open Idealize.ShloMosaic Idealize.ShloMosaic.TcCoe

variable (x : Vec Ideal S2x384x248x216 .f32)

/-- The class result, -/
theorem cls_result (w : Vec Ideal S2x384 .f32) (b : Vec Ideal S2 .f32) :
    (addf (transpose S2x2x248x216 [1, 0, 2, 3]
        (Host.dotGeneral (F := Ideal) (φ₁ := .f32) (φ₂ := .f32) dot_S2x384_S2x384x248x216_S2x2x248x216_1_1_0_023_n_n none w x)
        transposes_S2x2x248x216_S2x2x248x216_1_0_2_3)
      (broadcastInDim S2x2x248x216 ![0, 1, 2, 3] bcast_S1x2x1x1_S2x2x248x216_0_1_2_3
        (broadcastInDim S1x2x1x1 ![1] bcast_S2_S1x2x1x1_1 b)) : FVec Ideal S2x2x248x216 .f32)
      = conv 2 x w b := by
  funext i
  unfold conv
  pointwise

/-- the box result, -/
theorem reg_result (w : Vec Ideal S14x384 .f32) (b : Vec Ideal S14 .f32) :
    (addf (transpose S2x14x248x216 [1, 0, 2, 3]
        (Host.dotGeneral (F := Ideal) (φ₁ := .f32) (φ₂ := .f32) dot_S14x384_S2x384x248x216_S14x2x248x216_1_1_0_023_n_n none w x)
        transposes_S14x2x248x216_S2x14x248x216_1_0_2_3)
      (broadcastInDim S2x14x248x216 ![0, 1, 2, 3] bcast_S1x14x1x1_S2x14x248x216_0_1_2_3
        (broadcastInDim S1x14x1x1 ![1] bcast_S14_S1x14x1x1_1 b)) : FVec Ideal S2x14x248x216 .f32)
      = conv 14 x w b := by
  funext i
  unfold conv
  pointwise

/-- and the direction result. -/
theorem dir_result (w : Vec Ideal S4x384 .f32) (b : Vec Ideal S4 .f32) :
    (addf (transpose S2x4x248x216 [1, 0, 2, 3]
        (Host.dotGeneral (F := Ideal) (φ₁ := .f32) (φ₂ := .f32) dot_S4x384_S2x384x248x216_S4x2x248x216_1_1_0_023_n_n none w x)
        transposes_S4x2x248x216_S2x4x248x216_1_0_2_3)
      (broadcastInDim S2x4x248x216 ![0, 1, 2, 3] bcast_S1x4x1x1_S2x4x248x216_0_1_2_3
        (broadcastInDim S1x4x1x1 ![1] bcast_S4_S1x4x1x1_1 b)) : FVec Ideal S2x4x248x216 .f32)
      = conv 4 x w b := by
  funext i
  unfold conv
  pointwise

end Cert.ReferenceIdeal.Head

end
-- ==== Proof.Reference.Run.lean ====
/- The run of the reference, its results named as the heads. -/
module

public import proofs.«01_k».proof.Proof.Reference.Results
public import Idealize.ShloMosaic.Lib.Quiescent

@[expose] public section

namespace Cert.ReferenceIdeal.Head

open Cert.Head Cert.ReferenceIdeal.Gen
open Idealize.ShloMosaic Idealize.ShloMosaic.TcCoe

variable (m : (ℓ : Loc nD τ sig) → Buf (Elt Ideal) ℓ)

/-- Every run of the reference ends with each result at its head of the image, every argument as it was, and every counter
    at zero: the program has none. -/
theorem ends (ρ : Dev nD → PrngReg) :
    θ_run (defs (F := Ideal)) (onTc (τ := τ) (main (F := Ideal))) ⟨m, fun _ => 0, ρ⟩ (fun r => (∀ c : Dev nD,
      r.2.mem ((c.tc : Thread nD τ).loc main_v4) = conv 2 (m ((c.tc : Thread nD τ).loc main_arg0))
        (m ((c.tc : Thread nD τ).loc main_arg1)) (m ((c.tc : Thread nD τ).loc main_arg2))
      ∧ r.2.mem ((c.tc : Thread nD τ).loc main_v9) = conv 14 (m ((c.tc : Thread nD τ).loc main_arg0))
        (m ((c.tc : Thread nD τ).loc main_arg3)) (m ((c.tc : Thread nD τ).loc main_arg4))
      ∧ r.2.mem ((c.tc : Thread nD τ).loc main_v14) = conv 4 (m ((c.tc : Thread nD τ).loc main_arg0))
        (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run _ _ _).mono (fun r h => ⟨fun c => ⟨(h c).1.trans (cls_result _ _ _), (h c).2.1.trans (reg_result _ _ _),
    (h c).2.2.1.trans (dir_result _ _ _), (h c).2.2.2⟩, sem_eq_zero_of_no_sems rfl r.2⟩) (Value.run m ρ)

end Cert.ReferenceIdeal.Head
-- ==== Proof.lean ====
/- The certificate of the three-headed 1x1 convolution: the frames of the kernel as compiled, of the kernel over the extended
   reals and of the reference; and that over the extended reals the kernel's three results are the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Bits.Frame
public import proofs.«01_k».proof.Proof.Ideal.Results
public import proofs.«01_k».proof.Proof.Reference.Run
public import Idealize.ShloMosaic.Adequacy
public import Idealize.ShloMosaic.Init

@[expose] public section

noncomputable section

namespace Cert.Proof

open Idealize.ShloMosaic Idealize.SL.Sem Cert.Kernel Cert.Head

local instance : Cert.Kernel.Facts := Cert.Kernel.Gen.facts
local instance : Cert.KernelIdeal.Facts := Cert.KernelIdeal.Gen.facts
local instance : Cert.ReferenceIdeal.Facts := Cert.ReferenceIdeal.Gen.facts

/-- From equal arguments the kernel and the reference both end with the class, box and direction heads of the image. -/
theorem same_heads : algebraic_KernelIdeal_ReferenceIdeal := by
  intro m g m' g' _ agree
  refine ⟨fun c => conv 2 (KernelIdeal.Head.img m c) (KernelIdeal.Head.clsW m c) (KernelIdeal.Head.clsB m c),
    fun c => conv 14 (KernelIdeal.Head.img m c) (KernelIdeal.Head.regW m c) (KernelIdeal.Head.regB m c),
    fun c => conv 4 (KernelIdeal.Head.img m c) (KernelIdeal.Head.dirW m c) (KernelIdeal.Head.dirB m c), ?_, ?_⟩
  · exact (θ_run _ _ _).mono (fun r h c => ⟨(h.1 c).1.trans (KernelIdeal.Head.cls_result m c),
      (h.1 c).2.1.trans (KernelIdeal.Head.reg_result m c), (h.1 c).2.2.1.trans (KernelIdeal.Head.dir_result m c),
      (h.1 c).2.2.2⟩) (KernelIdeal.Head.ends m g)
  · refine (θ_run _ _ _).mono (fun r h c => ?_) (ReferenceIdeal.Head.ends m' g')
    obtain ⟨a0, a1, a2, a3, a4, a5, a6⟩ := agree c
    have results := h.1 c
    rw [a0, a1, a2, a3, a4, a5, a6] at results
    rw [a0, a1, a2, a3, a4, a5, a6]
    exact results

/-- All five claims. -/
theorem claim : Cert.Claim := ⟨Cert.Kernel.Gen.facts, Cert.KernelIdeal.Gen.facts, Cert.ReferenceIdeal.Gen.facts,
  fun m g _ => Cert.Kernel.Head.frame m g,
  fun m g _ => (θ_run _ _ _).mono (fun _ h => ⟨fun c => (h.1 c).2.2.2, h.2⟩) (Cert.KernelIdeal.Head.ends (F := Ideal) m g),
  fun m g _ => (θ_run _ _ _).mono (fun _ h => ⟨fun c => (h.1 c).2.2.2, h.2⟩) (Cert.ReferenceIdeal.Head.ends m g),
  trivial, same_heads⟩

end Cert.Proof

end
